-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x1024 : Shape := ⟨2, ![512, 1024]⟩
abbrev S1024x512 : Shape := ⟨2, ![1024, 512]⟩
abbrev S_ : Shape := ⟨0, ![]⟩
abbrev S512x512 : Shape := ⟨2, ![512, 512]⟩

abbrev nBuf : Space → Nat
  | .hbm => 2
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x512, .f32⟩
  | _, _ => ⟨S512x1024, .f32⟩

abbrev bufScoped : (cs : CoreSpace) → Fin (nBuf (.core cs)) → Bool
  | _, _ => false

abbrev semScoped : Fin 1 → Bool
  | ⟨0, _⟩ => false
  | _ => false

abbrev dmaSemScoped : Fin 3 → Bool
  | ⟨0, _⟩ => true
  | ⟨1, _⟩ => true
  | ⟨2, _⟩ => true
  | _ => false

abbrev sig : RefSig :=
  (ofTc nBuf bufTy 1 3 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_9 : BitVec 32 := 512#32
  let v18 : BitVec 32 := Scalar.muli v8 c512_i32_9
  let c0_i32_14 : BitVec 32 := 0#32
  ![v18.toNat, 0]
def k0_off2 (d0 : Dev nD) : Fin 2 → Nat :=
  let c0_i32_15 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c512_i32 : BitVec 32 := 512#32
  let v17 : BitVec 32 := Scalar.muli v9 c512_i32
  ![0, v17.toNat]
def k0_dev2 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v19 : BitVec 32 := Scalar.muli v2 c4_i32_10
  let v20 : BitVec 32 := Scalar.addi c0_i32_11 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v21 : BitVec 32 := Scalar.muli v5 c2_i32_12
  let v22 : BitVec 32 := Scalar.addi v20 v21
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_13 : BitVec 32 := 1#32
  let v23 : BitVec 32 := Scalar.muli v9 c1_i32_13
  let v24 : BitVec 32 := Scalar.addi v22 v23
  v24.toNat
def k0_off3 (d0 : Dev nD) : Fin 2 → Nat :=
  let c0_i32_19 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_16 : BitVec 32 := 512#32
  let v27 : BitVec 32 := Scalar.muli v8 c512_i32_16
  ![0, v27.toNat]
-- ==== ReferenceIdeal.lean ====
abbrev S1024x1024 : Shape := ⟨2, ![1024, 1024]⟩

abbrev nBuf : Space → Nat
  | .hbm => 1
  | .vmem => 0
  | .smem => 0
  | _ => 0

abbrev bufTy : (tb : Table) → Fin (tcTables nBuf tb) → BufTy
  | .hbm, ⟨0, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Halves.lean ====
/-
# The halves of the two arrays

Device `c` of the 2 × 2 × 2 mesh holds 512 rows of the input (`main_arg0`, 512 × 1024) and produces 512 columns of
the output (`main_v1`, 1024 × 512). The devices come in pairs that differ only in the last mesh coordinate. This
module names the four 512 × 512 windows the kernel moves data between, states which elements each covers, and
states the array every device is to end with.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.CollectiveSegs
public import Idealize.ShloMosaic.Lib.Pipeline.Kit
public import Idealize.ShloMosaic.Lib.Tactic

@[expose] public section

noncomputable section

namespace Cert.Reshard

open Cert.KernelIdeal Cert.KernelIdeal.Gen
open Idealize.ShloMosaic
open Idealize.ShloMosaic.TcCoe

/-! ## The pairs -/

/-- The device whose last mesh coordinate is the other one. -/
def peer (c : Dev nD) : Dev nD :=
  ⟨(4 * (c.val / 4) + 2 * ((c.val / 2) % 2) + 1) - c.val % 2, (k0_dev1_eq c) ▸ k0_dev1_lt c⟩

/-- Being the peer is symmetric. -/
theorem peer_peer (c : Dev nD) : peer (peer c) = c := by revert c; decide

/-- The signal is addressed to the peer. -/
theorem signal_to_peer (c : Dev nD) : (⟨k0_dev1 c, k0_dev1_lt c⟩ : Dev nD) = peer c := Fin.ext (k0_dev1_eq c)

/-- The remote copy is addressed to the peer. -/
theorem copy_to_peer (c : Dev nD) : (⟨k0_dev2 c, k0_dev2_lt c⟩ : Dev nD) = peer c := Fin.ext (k0_dev2_eq c)

/-- Exchanging the two devices of every pair, as a permutation. -/
def swap : Dev nD ≃ Dev nD := ⟨peer, peer, peer_peer, peer_peer⟩

/-- The member of `c`'s pair whose last mesh coordinate is the parity of `z`. -/
def member (c : Dev nD) (z : ℕ) : Dev nD := ⟨2 * (c.val / 2) + z % 2, by have : c.val < 8 := c.isLt; show _ < 8; omega⟩

/-- `c` itself is its pair's member at its own last coordinate. -/
theorem member_self (c : Dev nD) : member c (c.val % 2) = c := by revert c; decide

/-- `c` is also a member of its peer's pair. -/
theorem member_peer (c : Dev nD) : member (peer c) (c.val % 2) = c := by revert c; decide

/-- The peers' last coordinates are the two different ones. -/
theorem peer_parity (c : Dev nD) : (peer c).val % 2 = 1 - c.val % 2 := by revert c; decide

/-! ## The windows -/

/-- The input, whole. -/
abbrev xM : Memref sig .tc .hbm S512x1024 .f32 := Memref.whole main_arg0
/-- The output, whole. -/
abbrev oM : Memref sig .tc .hbm S1024x512 .f32 := Memref.whole main_v1

/-- The rows of the output that device `d` fills, on itself and on its peer. -/
abbrev band (d : Dev nD) : Memref sig .tc .hbm S512x512 .f32 :=
  oM.slice (Rect.unit (s := S1024x512) (k0_off1 d) S512x512.size (k0_off1_inb d)) (fun _ => rfl)
/-- The columns of the input that device `d` sends away. -/
abbrev away (d : Dev nD) : Memref sig .tc .hbm S512x512 .f32 :=
  xM.slice (Rect.unit (s := S512x1024) (k0_off2 d) S512x512.size (k0_off2_inb d)) (fun _ => rfl)
/-- The columns of the input that device `d` keeps. -/
abbrev kept (d : Dev nD) : Memref sig .tc .hbm S512x512 .f32 :=
  xM.slice (Rect.unit (s := S512x1024) (k0_off3 d) S512x512.size (k0_off3_inb d)) (fun _ => rfl)

/-- An element of the output is in `d`'s band exactly when its row is in the half `d`'s last coordinate names. -/
theorem mem_band (d : Dev nD) (i : S1024x512.Idx) : i ∈ (band d).view.set ↔ (i 0).val / 512 = d.val % 2 := by
  refine (Finset.ext_iff.mp (View.set_slice_whole main_v1
    (Rect.unit (s := S1024x512) (k0_off1 d) S512x512.size (k0_off1_inb d))) i).trans ?_
  rw [Rect.mem_set_unit, k0_off1_eq]
  have h0 : (i 0).val < 1024 := (i 0).isLt
  have h1 : (i 1).val < 512 := (i 1).isLt
  constructor
  · intro h
    have := h 0
    simp at this
    omega
  · intro h a
    fin_cases a <;> simp <;> omega

/-- An element of the input is among the columns `d` sends exactly when its column is in the other half. -/
theorem mem_away (d : Dev nD) (i : S512x1024.Idx) : i ∈ (away d).view.set ↔ (i 1).val / 512 = 1 - d.val % 2 := by
  refine (Finset.ext_iff.mp (View.set_slice_whole main_arg0
    (Rect.unit (s := S512x1024) (k0_off2 d) S512x512.size (k0_off2_inb d))) i).trans ?_
  rw [Rect.mem_set_unit, k0_off2_eq]
  have h0 : (i 0).val < 512 := (i 0).isLt
  have h1 : (i 1).val < 1024 := (i 1).isLt
  constructor
  · intro h
    have := h 1
    simp at this
    omega
  · intro h a
    fin_cases a <;> simp <;> omega

/-- An element of the input is among the columns `d` keeps exactly when its column is in `d`'s half. -/
theorem mem_kept (d : Dev nD) (i : S512x1024.Idx) : i ∈ (kept d).view.set ↔ (i 1).val / 512 = d.val % 2 := by
  refine (Finset.ext_iff.mp (View.set_slice_whole main_arg0
    (Rect.unit (s := S512x1024) (k0_off3 d) S512x512.size (k0_off3_inb d))) i).trans ?_
  rw [Rect.mem_set_unit, k0_off3_eq]
  have h0 : (i 0).val < 512 := (i 0).isLt
  have h1 : (i 1).val < 1024 := (i 1).isLt
  constructor
  · intro h
    have := h 1
    simp at this
    omega
  · intro h a
    fin_cases a <;> simp <;> omega

/-- The peer's band is what a device's own band leaves of the output. -/
theorem band_rest (d : Dev nD) : Finset.univ \ (band d).view.set = (band (peer d)).view.set := by
  ext i
  rw [Finset.mem_sdiff, mem_band d i, mem_band (peer d) i, peer_parity]
  have h0 : ((i : S1024x512.Idx) 0).val < 1024 := (i 0).isLt
  constructor
  · rintro ⟨-, h⟩; omega
  · intro h; exact ⟨Finset.mem_univ _, by omega⟩

/-- The kept columns are what the sent ones leave of the input. -/
theorem away_rest (d : Dev nD) : Finset.univ \ (away d).view.set = (kept d).view.set := by
  ext i
  rw [Finset.mem_sdiff, mem_away d i, mem_kept d i]
  have h0 : ((i : S512x1024.Idx) 1).val < 1024 := (i 1).isLt
  constructor
  · rintro ⟨-, h⟩; omega
  · intro h; exact ⟨Finset.mem_univ _, by omega⟩

/-! ## Amounts -/

/-- What the arrival of one 512 × 512 window adds to a semaphore. -/
abbrev amt : ℕ := (band (0 : Dev nD)).view.dmaCredit

/-- It is positive. -/
theorem amt_pos : 0 < amt := View.dmaCredit_pos _ (by decide)

/-- The sent columns of the input count for as much as a band of the output: same shape, same element type. -/
theorem away_amt (d : Dev nD) : (away d).view.dmaCredit = amt := rfl

/-- Every band counts for the same. -/
theorem band_amt (d : Dev nD) : (band d).view.dmaCredit = amt := rfl

/-! ## Contents -/

variable {F : FTy → Type}
variable (m : (ℓ : Loc nD τ sig) → Buf (Elt F) ℓ)

/-- What device `c` holds of the input when the program starts. -/
def inp (c : Dev nD) : S512x1024.Idx → Elt F .f32 := m ((c : Thread nD τ).loc main_arg0)

/-- The output device `c` is to end with: the two members' rows one above the other, of each the half of the columns
    that `c`'s last coordinate names. -/
def goal (c : Dev nD) : S1024x512.Idx → Elt F .f32 := fun i =>
  inp m (member c ((i 0).val / 512))
    (Shape.pair ⟨(i 0).val % 512, Nat.mod_lt _ (by decide)⟩
      ⟨512 * (c.val % 2) + (i 1).val, by have : (i 1).val < 512 := (i 1).isLt; show _ < 1024; omega⟩)

/-- One entry of the array `e` is to end with: it is the entry of the member `c` that its row names, at the same row
    within the half and at the column of `e`'s half. -/
theorem goal_at (c e : Dev nD) (i : S1024x512.Idx) (k : S512x1024.Idx) (hm : member e ((i 0).val / 512) = c)
    (h0 : (k 0).val = (i 0).val % 512) (h1 : (k 1).val = 512 * (e.val % 2) + (i 1).val) : inp m c k = goal m e i := by
  subst hm
  unfold goal
  congr 1
  funext a
  apply Fin.ext
  fin_cases a
  · exact h0
  · exact h1

/-- Copying a window of the input through device `c`'s band of an output: if the window starts at the columns that
    device `e` of the pair names, every element of the band receives what `e`'s output is to end with there. -/
theorem lands (c e : Dev nD) (hm : member e (c.val % 2) = c) (off : Fin 2 → ℕ)
    (inb : ∀ a, off a + S512x512.size a ≤ S512x1024.size a) (ho : off = ![0, 512 * (e.val % 2)])
    (f : S1024x512.Idx → Elt F .f32) :
    ∀ i ∈ (band c).view.set,
      (band c).view.write (Elt F) f
        ((xM.slice (Rect.unit (s := S512x1024) off S512x512.size inb) (fun _ => rfl)).view.read (Elt F) (inp m c))
        Finset.univ i = goal m e i := by
  intro i hi
  obtain ⟨j, -, rfl⟩ := Finset.mem_map.mp hi
  have h0 : (j 0).val < 512 := (j 0).isLt
  have e0 : (((band c).view.emb j : S1024x512.Idx) 0).val = 512 * (c.val % 2) + (j 0).val := by
    show k0_off1 c 0 + 1 * (j 0).val = _
    rw [k0_off1_eq]; simp
  have e1 : (((band c).view.emb j : S1024x512.Idx) 1).val = (j 1).val := by
    show k0_off1 c 1 + 1 * (j 1).val = _
    rw [k0_off1_eq]; simp
  refine (View.write_emb_of_mem _ _ (Finset.mem_univ j)).trans ?_
  subst ho
  refine goal_at m c e ((band c).view.emb j) _ ?_ ?_ ?_
  · rw [e0, show (512 * (c.val % 2) + (j 0).val) / 512 = c.val % 2 by omega, hm]
  · rw [e0]
    show 0 + 1 * (j 0).val = _
    omega
  · rw [e1]
    show 512 * (e.val % 2) + 1 * (j 1).val = _
    omega

/-- The local copy puts into device `c`'s band of its own output what that output is to end with. -/
theorem local_lands (c : Dev nD) (f : S1024x512.Idx → Elt F .f32) :
    ∀ i ∈ (band c).view.set,
      (band c).view.write (Elt F) f ((kept c).view.read (Elt F) (inp m c)) Finset.univ i = goal m c i :=
  lands m c c (member_self c) _ _ (k0_off3_eq c) f

/-- The remote copy puts into device `c`'s band of its peer's output what that output is to end with. -/
theorem remote_lands (c : Dev nD) (f : S1024x512.Idx → Elt F .f32) :
    ∀ i ∈ (band c).view.set,
      (band c).view.write (Elt F) f ((away c).view.read (Elt F) (inp m c)) Finset.univ i = goal m (peer c) i :=
  lands m c (peer c) (member_peer c) _ _
    ((k0_off2_eq c).trans (by rw [peer_parity]; congr 2; omega)) f

end Cert.Reshard

end
-- ==== Proof.Exchange.lean ====
/-
# The exchange between the two devices of a pair

Every device has four semaphore cells, each used for exactly one round of one duty:

* cell 0, the barrier: the peer adds one when its output may be written. The signal hands over the peer's copy of the
  band that this device fills;
* cell 1, the local copy: it adds the window's amount when the kept columns lie in this device's band;
* cell 2, the sending side of the remote copy: it gives the sent columns of the input back;
* cell 3, the receiving side: the peer's copy adds the amount when the peer's rows have landed.

The module states this schedule and proves the kernel's body against it.
-/
module

public import proofs.«01_k».proof.Proof.Halves

@[expose] public section

noncomputable section

namespace Cert.Reshard

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type}

/-- The user algebra: one copy for the pipeline's cells, one for the exchange's. -/
abbrev UU : Type := UR sig nD τ × UR sig nD τ

local notation "𝕄" => MT nD τ sig Unit (Elt F) ℕ UU ℕ

/-- The pipeline's copy. -/
abbrev EP : Emb (UR sig nD τ) (MT nD τ sig Unit (Elt F) ℕ UU ℕ) := embL
/-- The exchange's copy. -/
abbrev ER : Emb (UR sig nD τ) (MT nD τ sig Unit (Elt F) ℕ UU ℕ) := embR

variable (m : (ℓ : Loc nD τ sig) → Buf (Elt F) ℓ)

/-! ## Cells -/

/-- The barrier semaphore. -/
abbrev barS : Sems sig S_ := SemArray.scalar (sig.barrier 0 rfl)

/-- The four semaphores. -/
abbrev csem : Fin 4 → SemLoc sig := fun
  | 0 => .reg barS.sem
  | 1 => .dma cc0_scratch0.sem
  | 2 => .dma cc0_scratch1.sem
  | 3 => .dma cc0_scratch2.sem

/-- Device `c`'s cell `k`. -/
abbrev cell (c : Dev nD) (k : Fin 4) : GSem nD τ sig := ((c : Thread nD τ), csem k)

/-- Which of the four a semaphore is, if any. -/
def kind (s : SemLoc sig) : Option (Fin 4) :=
  if s = csem 0 then some 0 else if s = csem 1 then some 1 else if s = csem 2 then some 2
  else if s = csem 3 then some 3 else none

/-- Each of the four is recognised. -/
theorem kind_csem : ∀ k : Fin 4, kind (csem k) = some k := by decide

/-! ## Pieces of the arrays -/

/-- Device `e`'s output, on the band that device `d` fills. -/
def bandOn (d e : Dev nD) (f : S1024x512.Idx → Elt F .f32) : sProp 𝕄 :=
  (band d).view.loc (e : Thread nD τ) ↦[(band d).view.set]{fullShare} f

/-- The columns device `c` sends, at the input's contents. -/
def awayPts (c : Dev nD) : sProp 𝕄 :=
  (away c).view.loc (c : Thread nD τ) ↦[(away c).view.set]{fullShare} inp m c

/-- The columns device `c` keeps, at the input's contents. -/
def keptPts (c : Dev nD) : sProp 𝕄 :=
  (kept c).view.loc (c : Thread nD τ) ↦[(kept c).view.set]{fullShare} inp m c

instance bandOn_storable (d e : Dev nD) (f : S1024x512.Idx → Elt F .f32) :
    BI.Storable (upEmb : UEmb _ 𝕄) (bandOn (F := F) d e f) := by unfold bandOn; infer_instance
instance awayPts_storable (c : Dev nD) : BI.Storable (upEmb : UEmb _ 𝕄) (awayPts m c) := by
  unfold awayPts; infer_instance
instance keptPts_storable (c : Dev nD) : BI.Storable (upEmb : UEmb _ 𝕄) (keptPts m c) := by
  unfold keptPts; infer_instance

/-- Device `c`'s whole output is its own band and its peer's. -/
theorem out_split (c : Dev nD) (f : S1024x512.Idx → Elt F .f32) :
    (((c : Thread nD τ).loc main_v1 ↦{fullShare} f : sProp 𝕄)) ⊣⊢ iprop(bandOn c c f ∗ bandOn (peer c) c f) := by
  have h := pointsTo_split_subset (nD := nD) (τ := τ) (sig := sig) (Ix := Unit) (Name := ℕ) (U := UU) (Lvl := ℕ)
    (Val := Elt F) (ℓ := (c : Thread nD τ).loc main_v1) (q := fullShare) (f := f)
    (Finset.subset_univ ((band c).view.set))
  unfold bandOn
  rw [← band_rest c]
  exact h

/-- Device `c`'s whole input is the columns it sends and the columns it keeps. -/
theorem inp_split (c : Dev nD) :
    (((c : Thread nD τ).loc main_arg0 ↦{fullShare} inp m c : sProp 𝕄)) ⊣⊢ iprop(awayPts m c ∗ keptPts m c) := by
  have h := pointsTo_split_subset (nD := nD) (τ := τ) (sig := sig) (Ix := Unit) (Name := ℕ) (U := UU) (Lvl := ℕ)
    (Val := Elt F) (ℓ := (c : Thread nD τ).loc main_arg0) (q := fullShare) (f := inp m c)
    (Finset.subset_univ ((away c).view.set))
  unfold awayPts keptPts
  rw [← away_rest c]
  exact h

/-- Where the remote copy writes, the peer's output then holds what it is to end with. -/
theorem remote_delivers (c : Dev nD) (f : S1024x512.Idx → Elt F .f32) :
    ((band c).view.loc (peer c : Thread nD τ) ↦[(band c).view.set]{fullShare}
        (band c).view.write (Elt F) f ((away c).view.read (Elt F) (inp m c)) Finset.univ : sProp 𝕄)
      ⊢ bandOn (peer (peer c)) (peer c) (goal m (peer c)) := by
  rw [peer_peer]
  exact Entails.of_eq (pointsTo_congr (remote_lands m c f))

/-- Where the local copy writes, the device's own output then holds what it is to end with. -/
theorem local_delivers (c : Dev nD) (f : S1024x512.Idx → Elt F .f32) :
    ((band c).view.loc (c : Thread nD τ) ↦[(band c).view.set]{fullShare}
        (band c).view.write (Elt F) f ((kept c).view.read (Elt F) (inp m c)) Finset.univ : sProp 𝕄)
      ⊢ bandOn c c (goal m c) :=
  Entails.of_eq (pointsTo_congr (local_lands m c f))

/-! ## The schedule -/

/-- What the one duty of device `c`'s cell `k` delivers. -/
def delivers (c : Dev nD) : Fin 4 → sProp 𝕄
  | 0 => iprop((∃ f, bandOn c (peer c) f) ∗ reached ER (cell (peer c) 3) 0)
  | 1 => iprop(bandOn c c (goal m c) ∗ keptPts m c)
  | 2 => awayPts m c
  | 3 => bandOn (peer c) c (goal m c)

instance delivers_storable (c : Dev nD) (k : Fin 4) : BI.Storable (upEmb : UEmb _ 𝕄) (delivers m c k) := by
  fin_cases k <;> (unfold delivers; infer_instance)

/-- How much the one duty of cell `k` adds. -/
def adds (k : Fin 4) : ℕ := if k = 0 then 1 else amt

/-- One round of one duty on each of the four cells of every device. -/
def Rd : Rounds.Schedule (GSem nD τ sig) Unit 𝕄 where
  duties g r := if r = 0 ∧ g.1.2 = .tc ∧ (kind g.2).isSome then {()} else ∅
  unitless _ := False
  amount g _ _ := ((kind g.2).map adds).getD 1
  payload g _ _ := ((kind g.2).map (delivers m g.1.1)).getD iprop(emp)
  amount_pos g _ _ _ := by
    rcases kind g.2 with _ | k
    · exact Nat.one_pos
    · show 0 < adds k
      unfold adds; split
      · exact Nat.one_pos
      · exact amt_pos

instance Rd_payload_storable (g : GSem nD τ sig) (r : ℕ) (d : Unit) :
    BI.Storable (upEmb : UEmb _ 𝕄) ((Rd m).payload g r d) := by
  show BI.Storable upEmb (((kind g.2).map (delivers m g.1.1)).getD iprop(emp))
  rcases kind g.2 with _ | k
  · show BI.Storable upEmb iprop(emp); infer_instance
  · show BI.Storable upEmb (delivers m g.1.1 k); infer_instance

section Sched
variable (c : Dev nD) (k : Fin 4)

/-- The cells have their duty in round 0. -/
theorem duties_cell : (Rd m).duties (cell c k) 0 = {()} :=
  if_pos ⟨rfl, rfl, by show (kind (csem k)).isSome = true; rw [kind_csem]; rfl⟩

/-- It is among the round's duties. -/
theorem mem_duties : () ∈ (Rd m).duties (cell c k) 0 := by rw [duties_cell]; exact Finset.mem_singleton_self _

/-- No cell has a duty in a later round. -/
theorem duties_later (g : GSem nD τ sig) : ∀ r, 1 ≤ r → (Rd m).duties g r = ∅ :=
  fun r hr => if_neg fun h => by omega

/-- The duty adds what its kind of cell adds. -/
theorem amount_cell (u : Unit) : (Rd m).amount (cell c k) 0 u = adds k := by
  show ((kind (csem k)).map adds).getD 1 = adds k
  rw [kind_csem]; rfl

/-- A round of a cell is complete at what its one duty adds. -/
theorem expect_cell : (Rd m).expect (cell c k) 0 = adds k := by
  unfold Schedule.expect Schedule.amountOf; rw [duties_cell, Finset.sum_singleton, amount_cell]

/-- The duty delivers what its kind of cell delivers. -/
theorem payload_cell (u : Unit) : (Rd m).payload (cell c k) 0 u = delivers m c k := by
  show ((kind (csem k)).map (delivers m c)).getD iprop(emp) = delivers m c k
  rw [kind_csem]; rfl

/-- A wait for the whole round receives that. -/
theorem rest_cell :
    bigSep ((Rd m).duties (cell c k) 0 \ ∅) (fun u => (Rd m).payload (cell c k) 0 u) = delivers m c k := by
  rw [Finset.sdiff_empty, duties_cell, bigSep_singleton, payload_cell]

end Sched

/-! ## What a device owes, and the order of the waits -/

/-- At the start device `c` owes its peer the arrival of its rows and the barrier's unit. -/
def owed₀ (c : Dev nD) : CellTallies nD τ sig Unit :=
  tallyAt (cell (peer c) 3) () amt + tallyAt (cell (peer c) 0) () 1

/-- One level name per cell of a tensor core. -/
def L (g : GSem nD τ sig) : Finset Unit := if g.1.2 = .tc then {()} else ∅
/-- The arrivals come after the barriers. -/
def lv (g : GSem nD τ sig) (_ : Unit) : ℕ := if kind g.2 = some 0 then 1 else if kind g.2 = some 3 then 2 else 0

/-- Nothing else has a level name. -/
theorem L_of_ne (g : GSem nD τ sig) (h : g.1.2 ≠ .tc) : L g = ∅ := if_neg h

/-- A device may wait at its barrier while it still owes its peer the arrival. -/
theorem may_wait (c : Dev nD) :
    (levAts L lv : sProp 𝕄) ⊢ MayWait (c : Thread nD τ) (csem 0) () (tallyAt (cell (peer c) 3) () amt) := by
  have only : ∀ (g : GSem nD τ sig) (u : Unit), 0 < tallyAt (cell (peer c) 3) () amt g u → g = cell (peer c) 3 := by
    intro g u h
    by_contra hn
    rw [tallyAt_apply, if_neg fun h' => hn h'.1] at h
    exact Nat.lt_irrefl 0 h
  refine MayOwe.of_cut (L := L) (lev := lv) 1 (fun p hp => ?_) (fun g u hg => ?_) (fun p hp => ?_) (fun g u hg => ?_)
  · rw [Finset.mem_singleton.mp hp]; exact Finset.mem_singleton_self _
  · rw [only g u hg]; exact Finset.mem_singleton_self _
  · rw [Finset.mem_singleton.mp hp]; show (if kind (csem 0) = some 0 then 1 else _) ≤ 1
    rw [kind_csem, if_pos rfl]
  · rw [only g u hg]
    show 1 < (if kind (csem 3) = some 0 then 1 else if kind (csem 3) = some 3 then 2 else 0)
    rw [kind_csem]; decide

/-! ## The state around the body -/

/-- Every cell's invariant, and that every cell is at its first round. -/
def records (K : Dev nD × Fin 4 → ℕ) : sProp 𝕄 :=
  iprop((bigSep Finset.univ fun ck : Dev nD × Fin 4 => cellInv ER (Rd m) (K ck) (cell ck.1 ck.2))
    ∗ bigSep Finset.univ fun ck : Dev nD × Fin 4 => reached ER (cell ck.1 ck.2) 0)

instance records_persistent (K : Dev nD × Fin 4 → ℕ) : BI.Persistent (records m K) := by
  unfold records; infer_instance

/-- The records give any one cell's invariant. -/
theorem inv_of (K : Dev nD × Fin 4 → ℕ) (c : Dev nD) (k : Fin 4) :
    records m K ⊢ cellInv ER (Rd m) (K (c, k)) (cell c k) := by
  unfold records
  exact sep_elim_left.trans (bigSep_elim (Finset.mem_univ (c, k)))

/-- The records give that any one cell is at its first round. -/
theorem reached_of (K : Dev nD × Fin 4 → ℕ) (c : Dev nD) (k : Fin 4) :
    records m K ⊢ reached ER (cell c k) 0 := by
  unfold records
  exact sep_elim_right.trans (bigSep_elim (Finset.mem_univ (c, k)))

/-- A cell whose one round is over is closed: its counter is zero for good. -/
theorem close_cell (K : Dev nD × Fin 4 → ℕ) (c : Dev nD) (k : Fin 4) :
    iprop(records m K ∗ atPos ER (cell c k) (0 + 1) ∅ 0) ⊢ (|={Set.univ}=> semVal (cell c k) 0 : sProp 𝕄) :=
  (sep_mono_left (inv_of m K c k)).trans
    (Rounds.cell_close ER (Rd m) (Set.mem_univ (K (c, k))) (fun h => h) (R := 0 + 1) (duties_later m (cell c k)))

/-- A device's positions in its own four cells. -/
def positions (c : Dev nD) : sProp 𝕄 :=
  iprop(atPos ER (cell c 0) 0 ∅ 0 ∗ atPos ER (cell c 1) 0 ∅ 0 ∗ atPos ER (cell c 2) 0 ∅ 0 ∗ atPos ER (cell c 3) 0 ∅ 0)

/-- The right to perform the duties device `c` performs: its peer's barrier and arrival, its own two copies. -/
def tasks (c : Dev nD) : sProp 𝕄 :=
  iprop(dutyTok ER (cell (peer c) 0) 0 () ∗ dutyTok ER (cell c 1) 0 () ∗ dutyTok ER (cell c 2) 0 ()
    ∗ dutyTok ER (cell (peer c) 3) 0 ())

/-- What a device starts with, beyond its arrays. -/
def ghost (c : Dev nD) : sProp 𝕄 := iprop(∃ K, records m K ∗ positions c ∗ tasks c)

/-- Before the body: the two arrays as the program found them, and the means to take part in the exchange. -/
def before (c : Dev nD) : sProp 𝕄 :=
  iprop(ghost m c ∗ cred (tallyAt (cell c 0) () 1) ∗ cred (tallyAt (cell c 3) () amt) ∗ levAts L lv
    ∗ ((c : Thread nD τ).loc main_arg0 ↦{fullShare} inp m c)
    ∗ ((c : Thread nD τ).loc main_v1 ↦{fullShare} m ((c : Thread nD τ).loc main_v1)))

/-- After the body: the input as it was, the output as it is to be, all four cells at zero. -/
def done (c : Dev nD) : sProp 𝕄 :=
  iprop((semVal (cell c 0) 0 ∗ semVal (cell c 1) 0 ∗ semVal (cell c 2) 0 ∗ semVal (cell c 3) 0)
    ∗ ((c : Thread nD τ).loc main_arg0 ↦{fullShare} inp m c)
    ∗ ((c : Thread nD τ).loc main_v1 ↦{fullShare} goal m c))

/-- The proof data of the one region: no windows, the two states above, and the debt paid by the end. -/
def dats (_ : Fin 1) (c : Dev nD) : Dat τ (Elt F) Unit ℕ UU ℕ cfg0 c where
  A w := w.elim0
  after w _ := w.elim0
  Φ t := match t with
    | ⟨0, _⟩ => before m c
    | ⟨_ + 1, _⟩ => done m c
  q _ := fullShare
  owed t := match t with
    | ⟨0, _⟩ => owed₀ c
    | ⟨_ + 1, _⟩ => 0

/-- The body calls no function, so no variants are needed. -/
abbrev 𝒱₀ : Variants := Variants.none

/-! ## The body -/

variable [FloatOps F]

/-- The remote copy, whatever device it is addressed to as long as that is the peer: it takes the sent columns, the
    peer's band and what is owed, and leaves nothing owed. -/
theorem wp_remote (K : Dev nD × Fin 4 → ℕ) (c n : Dev nD) (hn : n = peer c)
    {hsc : (band c : Memref sig (Dev.tc n : Thread nD τ).2.kind .hbm S512x512 .f32).view.ref.isScScratch = false}
    {hsrc : (away c).view.WordExact} {hdst : (band c).view.WordExact}
    {hsem : DmaTarget.Typed .hbm (csem 3)
      (.remote (Dev.tc n : Thread nD τ) (band c : Memref sig (Dev.tc n : Thread nD τ).2.kind .hbm S512x512 .f32) (csem 2) hsc)}
    {α : Type} {Q : α → sProp 𝕄} {k : PUnit → Prog (TpuEff nD τ sig (Elt F) Λ₀ .tc) α}
    (f : S1024x512.Idx → Elt F .f32) (W : Waits sig Unit) :
    iprop(records m K ∗ awayPts m c ∗ bandOn c (peer c) f ∗ owes (c : Thread nD τ) (tallyAt (cell (peer c) 3) () amt) W
        ∗ dutyTok ER (cell c 2) 0 () ∗ dutyTok ER (cell (peer c) 3) 0 ())
      ⊢ iprop(((cred (tallyAt (cell c 2) () amt) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (away c) (.remote (Dev.tc n : Thread nD τ) (band c) (csem 2) hsc) (csem 3) hsrc hdst hsem) k) Q) := by
  subst hn
  refine BIBase.Entails.trans ?_ (Rounds.wp_send_pointsTo 𝒱₀ ER (Rd m) (c : Thread nD τ) none (κ₁ := K (c, 2))
    (κ₂ := K (peer c, 3)) (r₁ := 0) (r₂ := 0) (d₁ := ()) (d₂ := ()) (fs := inp m c) (fd := f) (q := fullShare)
    (mem_duties m c 2) (mem_duties m (peer c) 3)
    () () amt (band_amt c) (amount_cell m c 2 ()) (amount_cell m (peer c) 3 ()) 0 (by rw [zero_add]) (W := W)
    (by rw [payload_cell]; exact BI.Entails.refl _)
    (by rw [payload_cell]; exact remote_delivers m c f))
  iintro ⟨#HR, Hx, Hb, HO, Ht2, Ht3⟩
  isplitr; · iapply (inv_of m K c 2); iexact HR
  isplitr; · iapply (inv_of m K (peer c) 3); iexact HR
  isplitl [Hx]; · unfold awayPts; iexact Hx
  isplitl [Hb]; · unfold bandOn; iexact Hb
  isplitl [HO]; · iexact HO
  isplitl [Ht2]; · iexact Ht2
  isplitr; · iapply (reached_of m K c 2); iexact HR
  isplitl [Ht3]; · iexact Ht3
  iapply (reached_of m K (peer c) 3); iexact HR

/-- The local copy: it takes the kept columns and the device's own band, and counts towards the device's own local
    semaphore. -/
theorem wp_local (K : Dev nD × Fin 4 → ℕ) (c : Dev nD)
    {hsrc : (kept c).view.WordExact} {hdst : (band c).view.WordExact}
    {hsem : DmaTarget.Typed (nD := nD) .hbm (csem 1)
      (DmaTarget.here (p := (c : Thread nD τ).2) (band c))}
    {α : Type} {Q : α → sProp 𝕄} {k : PUnit → Prog (TpuEff nD τ sig (Elt F) Λ₀ .tc) α}
    (f : S1024x512.Idx → Elt F .f32) :
    iprop(records m K ∗ keptPts m c ∗ bandOn c c f ∗ dutyTok ER (cell c 1) 0 ())
      ⊢ iprop((cred (tallyAt (cell c 1) () amt)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (kept c) (.here (band c)) (csem 1) hsrc hdst hsem) k) Q) := by
  refine BIBase.Entails.trans ?_ (Rounds.wp_copy_pointsTo 𝒱₀ ER (Rd m) (c : Thread nD τ) none (κ := K (c, 1))
    (r := 0) (d := ()) (fs := inp m c) (fd := f) (q := fullShare)
    (mem_duties m c 1) () amt (band_amt c) (amount_cell m c 1 ())
    (by rw [payload_cell]; exact sep_mono_left (local_delivers m c f)))
  iintro ⟨#HR, Hx, Hb, Ht⟩
  isplitr; · iapply (inv_of m K c 1); iexact HR
  isplitl [Hx]; · unfold keptPts; iexact Hx
  isplitl [Hb]; · unfold bandOn; iexact Hb
  isplitl [Ht]; · iexact Ht
  iapply (reached_of m K c 1); iexact HR

/-- A wait for the whole of a cell's round, with nothing owed: the device receives what the cell's duty delivers and
    the cell's counter is back at zero for good. -/
theorem wp_collect (K : Dev nD × Fin 4 → ℕ) (c : Dev nD) (k : Fin 4) (hk : k ≠ 0) {n : ℕ} (hn : n = amt)
    {e : TpuEff nD τ sig (Elt F) Λ₀ .tc PUnit} {α : Type} {Q : α → sProp 𝕄}
    {p : PUnit → Prog (TpuEff nD τ sig (Elt F) Λ₀ .tc) α} (W : Waits sig Unit)
    (hw : ∀ Φ : PUnit → sProp 𝕄, wpE (defs₀ (F := F)) 𝒱₀ (c : Thread nD τ) none Set.univ e Φ
        = waitSpec (c : Thread nD τ) Set.univ (csem k) n Φ) :
    iprop(records m K ∗ cred (tallyAt (cell c k) () amt) ∗ owes (c : Thread nD τ) 0 W ∗ atPos ER (cell c k) 0 ∅ 0)
      ⊢ iprop(((∃ W', owes (c : Thread nD τ) 0 W') ∗ delivers m c k ∗ semVal (cell c k) 0
            -∗ wp frame (wpE (defs₀ (F := F)) 𝒱₀ (c : Thread nD τ) none) Set.univ (p ⟨⟩) Q)
          -∗ wp frame (wpE (defs₀ (F := F)) 𝒱₀ (c : Thread nD τ) none) Set.univ (.op e p) Q) := by
  subst hn
  iintro ⟨#HR, Hc, HO, Hat⟩ Hk
  iapply (Rounds.wp_wait_rest_token 𝒱₀ ER (Rd m) (c : Thread nD τ) none (κ := K (c, k)) hw (Set.mem_univ _) ()
      (O := 0) (W := W) (R := 0) (m := 0) (T := ∅)
      (by rw [expect_cell, Nat.zero_add]; unfold adds; rw [if_neg hk])) $$ [Hc HO Hat]
  · isplitr; · iapply (inv_of m K c k); iexact HR
    isplitl [Hc]; · iexact Hc
    isplitl [HO]; · iexact HO
    isplitr; · rw [MayWait_zero]; iempintro
    iexact Hat
  iintro ⟨HO, Hat, -, Hpay⟩
  ihave Hp := (Entails.of_eq (rest_cell m c k)) $$ Hpay
  imod (close_cell m K c k) $$ [Hat] with Hz
  · isplitr; · iexact HR
    iexact Hat
  iapply Hk
  isplitl [HO]; · iexists _; iexact HO
  isplitl [Hp]; · iexact Hp
  iexact Hz

/-- The kernel's body: from what a device starts with and its debt to its peer, it ends with the arrays as they are to
    be, the cells at zero and nothing owed. -/
theorem body_spec (c : Dev nD) (W : Waits sig Unit) (Q : PUnit → sProp 𝕄) :
    iprop(before m c ∗ owes (c : Thread nD τ) (owed₀ c) W
        ∗ (done m c ∗ (∃ W', owes (c : Thread nD τ) 0 W') -∗ Q ⟨⟩))
      ⊢ wp frame (wpE (defs₀ (F := F)) 𝒱₀ (c : Thread nD τ) none) Set.univ
          (cc0_body (Memref.whole main_arg0) (Memref.isWhole_whole _) (Memref.whole main_v1) (Memref.isWhole_whole _)
            cc0_scratch0 cc0_scratch1 cc0_scratch2) Q := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold before ghost positions tasks
  iintro ⟨⟨⟨%K, #HR, ⟨Ha0, Ha1, Ha2, Ha3⟩, Ht0, Ht1, Ht2, Ht3⟩, Hc0, Hc3, #Hlev, Hx, Ho⟩, HO, Hk⟩
  ihave Hx' := (inp_split m c).1 $$ Hx
  icases Hx' with ⟨Haway, Hkept⟩
  ihave Ho' := (out_split c _).1 $$ Ho
  icases Ho' with ⟨Hown, Hother⟩
  -- the barrier's unit goes to the peer, and with it the band of this output that the peer fills
  simp only [signal_to_peer c]
  iapply (Rounds.wp_signal 𝒱₀ ER (Rd m) (c : Thread nD τ) none (dst := (peer c : Thread nD τ)) (κ := K (peer c, 0))
      (mem_duties m (peer c) 0) ((amount_cell m (peer c) 0 ()).trans (by decide)) ()
      (tallyAt (cell (peer c) 3) () amt) rfl) $$ [HO Ht0 Hother]
  · isplitr; · iapply (inv_of m K (peer c) 0); iexact HR
    isplitl [HO]; · iexact HO
    isplitl [Ht0]; · iexact Ht0
    isplitl [Hother]
    · iapply (Entails.of_eq (payload_cell m (peer c) 0 ()).symm)
      unfold delivers
      rw [peer_peer]
      isplitl [Hother]; · iexists _; iexact Hother
      iapply (reached_of m K c 3); iexact HR
    · iapply (reached_of m K (peer c) 0); iexact HR
  iintro HO
  -- the own barrier: the peer's band may be written now
  iapply (Rounds.wp_wait_rest_token 𝒱₀ ER (Rd m) (c : Thread nD τ) none (κ := K (c, 0))
      (wpE_semWait_eq 𝒱₀ (c : Thread nD τ) none Set.univ) (Set.mem_univ _) ()
      (O := tallyAt (cell (peer c) 3) () amt) (W := W) (R := 0) (m := 0) (T := ∅)
      ((by decide : 0 + (1#32).toNat = adds 0).trans (expect_cell m c 0).symm)) $$ [Hc0 HO Ha0]
  · isplitr; · iapply (inv_of m K c 0); iexact HR
    isplitl [Hc0]; · iexact Hc0
    isplitl [HO]; · iexact HO
    isplitr; · iapply (may_wait c); iexact Hlev
    iexact Ha0
  iintro ⟨HO, Ha0, -, Hpay⟩
  ihave Hp := (Entails.of_eq (rest_cell m c 0)) $$ Hpay
  unfold delivers
  icases Hp with ⟨⟨%f, Hband⟩, -⟩
  imod (close_cell m K c 0) $$ [Ha0] with Hz0
  · isplitr; · iexact HR
    iexact Ha0
  -- the remote copy
  iapply (wp_remote m K c _ (copy_to_peer c) f _) $$ [Haway Hband HO Ht2 Ht3]
  · isplitr; · iexact HR
    isplitl [Haway]; · iexact Haway
    isplitl [Hband]; · iexact Hband
    isplitl [HO]; · iexact HO
    isplitl [Ht2]; · iexact Ht2
    iexact Ht3
  iintro ⟨Hc2, HO⟩
  -- the local copy
  iapply (wp_local m K c _) $$ [Hkept Hown Ht1]
  · isplitr; · iexact HR
    isplitl [Hkept]; · iexact Hkept
    isplitl [Hown]; · iexact Hown
    iexact Ht1
  iintro Hc1
  -- the three waits
  iapply (wp_collect m K c 1 (by decide) (band_amt c) _ (wpE_waitDma2_eq 𝒱₀ (c : Thread nD τ) none Set.univ)) $$ [Hc1 HO Ha1]
  · isplitr; · iexact HR
    isplitl [Hc1]; · iexact Hc1
    isplitl [HO]; · iexact HO
    iexact Ha1
  unfold delivers
  iintro ⟨⟨%W1, HO⟩, ⟨Hown, Hkept⟩, Hz1⟩
  iapply (wp_collect m K c 2 (by decide) (away_amt c) _ (wpE_waitDma2_eq 𝒱₀ (c : Thread nD τ) none Set.univ)) $$ [Hc2 HO Ha2]
  · isplitr; · iexact HR
    isplitl [Hc2]; · iexact Hc2
    isplitl [HO]; · iexact HO
    iexact Ha2
  unfold delivers
  iintro ⟨⟨%W2, HO⟩, Haway, Hz2⟩
  iapply (wp_collect m K c 3 (by decide) (band_amt c) _ (wpE_waitDma2_eq 𝒱₀ (c : Thread nD τ) none Set.univ)) $$ [Hc3 HO Ha3]
  · isplitr; · iexact HR
    isplitl [Hc3]; · iexact Hc3
    isplitl [HO]; · iexact HO
    iexact Ha3
  unfold delivers
  iintro ⟨⟨%W3, HO⟩, Hother, Hz3⟩
  rw [wp_ret]; imodintro
  iapply Hk
  isplitr [HO]
  · unfold done
    isplitl [Hz0 Hz1 Hz2 Hz3]
    · isplitl [Hz0]; · iexact Hz0
      isplitl [Hz1]; · iexact Hz1
      isplitl [Hz2] <;> iassumption
    isplitl [Haway Hkept]
    · iapply (inp_split m c).2
      isplitl [Haway] <;> iassumption
    · iapply (out_split c (goal m c)).2
      isplitl [Hown] <;> iassumption
  · iexists W3; iexact HO

end Cert.Reshard

end
-- ==== Proof.Run.lean ====
/-
# The run of the eight devices

The launch set-up: the invariants of all 32 cells are made at once, each device gets the right to perform its own
duties, and the body's specification then gives the outcome of every run: it ends with the input unchanged, the output
as stated in `goal` and every semaphore at zero.
-/
module

public import proofs.«01_k».proof.Proof.Exchange

@[expose] public section

noncomputable section

namespace Cert.Reshard

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type}

local notation "𝕄" => MT nD τ sig Unit (Elt F) ℕ UU ℕ

variable (m : (ℓ : Loc nD τ sig) → Buf (Elt F) ℓ) (ρ : Dev nD → PrngReg)

/-! ## The launch element -/

/-- Cells as a function of device and kind. -/
abbrev cellAt (ck : Dev nD × Fin 4) : GSem nD τ sig := cell ck.1 ck.2

/-- Different devices or kinds are different cells. -/
theorem cellAt_injective : Function.Injective cellAt := by
  rintro ⟨c, k⟩ ⟨c', k'⟩ h
  have hc : c = c' := congrArg (fun g : GSem nD τ sig => g.1.1) h
  have hk : some k = some k' := by
    rw [← kind_csem k, ← kind_csem k']; exact congrArg (fun g : GSem nD τ sig => kind g.2) h
  rw [hc, Option.some.inj hk]

/-- All 32 cells. -/
def allCells : Finset (GSem nD τ sig) := Finset.univ.map ⟨cellAt, cellAt_injective⟩

/-- All 32 duties: each cell's one duty in round 0. -/
def allDuties : Finset (GSem nD τ sig × ℕ × Unit) :=
  Finset.univ.map ⟨fun ck => (cellAt ck, 0, ()), fun _ _ h => cellAt_injective (congrArg Prod.fst h)⟩

/-- The element the launch starts from. -/
def u₀ : UU :=
  (initOf (Pipeline.cells cfgs cellOf_inj) (Pipeline.launchToks cfgs cellOf_inj), initOf allCells allDuties)

/-- What of it device `c` is dealt: for each of its four cells the round state, the position and the duty. -/
def dealt (c : Dev nD) : sProp 𝕄 :=
  iprop((bigSep Finset.univ fun k : Fin 4 => roundState ER (Rd m) (cell c k) 0)
    ∗ (bigSep Finset.univ fun k : Fin 4 => reached ER (cell c k) 0)
    ∗ (bigSep Finset.univ fun k : Fin 4 => atPos ER (cell c k) 0 ∅ 0)
    ∗ bigSep Finset.univ fun k : Fin 4 => dutyTok ER (cell c k) 0 ())

/-- A statement for each of the four kinds, written out. -/
theorem bigSep_kinds (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The launch element is dealt to the devices. -/
theorem fund : BI.own (ER (initOf allCells allDuties)) ⊢ (|==> bigSep Finset.univ (dealt m) : sProp 𝕄) := by
  have byDev (Φ : GSem nD τ sig → sProp 𝕄) :
      bigSep allCells Φ = bigSep Finset.univ fun c : Dev nD => bigSep Finset.univ fun k : Fin 4 => Φ (cell c k) := by
    unfold allCells; rw [bigSep_map, bigSep_univ_prod]; rfl
  have byDuty : bigSep allDuties (fun x => (dutyTok ER x.1 x.2.1 x.2.2 : sProp 𝕄))
      = bigSep Finset.univ fun c : Dev nD => bigSep Finset.univ fun k : Fin 4 => dutyTok ER (cell c k) 0 () := by
    unfold allDuties; rw [bigSep_map, bigSep_univ_prod]; rfl
  iintro HX
  imod (Rounds.fund ER (Rd m) allCells allDuties) $$ HX with ⟨Hst, Hr, Hat, Htok⟩
  imodintro
  unfold dealt
  simp only [bigSep_sep']
  isplitl [Hst]; · iapply (Entails.of_eq (byDev fun g => roundState ER (Rd m) g 0)); iexact Hst
  isplitl [Hr]; · iapply (Entails.of_eq (byDev fun g => reached ER g 0)); iexact Hr
  isplitl [Hat]; · iapply (Entails.of_eq (byDev fun g => atPos ER g 0 ∅ 0)); iexact Hat
  iapply (Entails.of_eq byDuty); iexact Htok

/-! ## The semaphores -/

/-- The kernel's own three semaphores. -/
abbrev osem : Fin 3 → SemLoc sig := fun k => csem k.succ

/-- They are scoped, distinct and none of the pipeline's. -/
theorem own_facts : Pipeline.OwnSemFacts cfg0.spec osem := by decide

/-- The own semaphores at zero: cells 1, 2 and 3. -/
theorem own_sems (c : Dev nD) :
    (Pipeline.ownSems0 (Ix := Unit) (Name := ℕ) (U := UU) (Lvl := ℕ) (Val := Elt F) (τ := τ) osem c : sProp 𝕄)
      = iprop(semVal (cell c 1) 0 ∗ semVal (cell c 2) 0 ∗ semVal (cell c 3) 0) := by
  rw [Pipeline.ownSems0_eq_of_list c osem [0, 1, 2] (by decide) (by decide)]; rfl

/-- The launch's own semaphore at zero: cell 0. -/
theorem launch_sems (c : Dev nD) : (unscopedSems0 c : sProp 𝕄) = semVal (cell c 0) 0 := by
  unfold unscopedSems0; rw [bigSep_eq_bigSepL_of_eq [csem 0] (by decide) (by decide)]; rfl

/-! ## The cells' invariants -/

/-- One device's four counters and round states become four invariants. -/
theorem make_cells (c : Dev nD) :
    iprop(Pipeline.ownSems0 (Ix := Unit) (Name := ℕ) (U := UU) (Lvl := ℕ) (Val := Elt F) (τ := τ) osem c
        ∗ unscopedSems0 c ∗ dealt m c)
      ⊢ |={Set.univ}=> iprop((bigSep Finset.univ fun k => iprop(∃ κ : ℕ, cellInv ER (Rd m) κ (cell c k)))
          ∗ (bigSep Finset.univ fun k => reached ER (cell c k) 0)
          ∗ (bigSep Finset.univ fun k => atPos ER (cell c k) 0 ∅ 0)
          ∗ bigSep Finset.univ fun k => dutyTok ER (cell c k) 0 ()) := by
  have alloc : iprop((bigSep Finset.univ fun k : Fin 4 => semVal (cell c k) 0)
      ∗ bigSep Finset.univ fun k : Fin 4 => roundState ER (Rd m) (cell c k) 0)
      ⊢ (|={Set.univ}=> bigSep Finset.univ fun k => iprop(∃ κ : ℕ, cellInv ER (Rd m) κ (cell c k)) : sProp 𝕄) := by
    rw [← bigSep_sep']
    exact (bigSep_mono fun k _ => (Rounds.body_intro ER (Rd m) (cell c k)).trans inv_alloc).trans (bigSep_fupd _ _)
  rw [own_sems, launch_sems]
  unfold dealt
  iintro ⟨⟨H1, H2, H3⟩, H0, Hst, Hrest⟩
  imod alloc $$ [H0 H1 H2 H3 Hst] with Hinv
  · isplitl [H0 H1 H2 H3]
    · rw [bigSep_kinds]
      isplitl [H0]; · iexact H0
      isplitl [H1]; · iexact H1
      isplitl [H2] <;> iassumption
    · iexact Hst
  imodintro
  isplitl [Hinv] <;> iassumption

/-- The duties of all devices' own cells, dealt to the devices that perform them: the barrier's and the arrival's go
    to the peer. -/
theorem deal_tasks :
    (bigSep Finset.univ fun c : Dev nD => bigSep Finset.univ fun k : Fin 4 => (dutyTok ER (cell c k) 0 () : sProp 𝕄))
      ⊢ bigSep Finset.univ fun c : Dev nD => tasks c := by
  unfold tasks
  simp only [bigSep_kinds, bigSep_sep']
  rw [bigSep_univ_equiv swap (fun c : Dev nD => (dutyTok ER (cell c 0) 0 () : sProp 𝕄)),
    bigSep_univ_equiv swap (fun c : Dev nD => (dutyTok ER (cell c 3) 0 () : sProp 𝕄))]
  exact BI.Entails.refl _

/-- The records, a device's positions and its tasks are what it starts with. -/
theorem every_ghost (K : Dev nD × Fin 4 → ℕ) :
    (bigSep Finset.univ fun c : Dev nD =>
        iprop(records m K ∗ (bigSep Finset.univ fun k : Fin 4 => atPos ER (cell c k) 0 ∅ 0) ∗ tasks c) : sProp 𝕄)
      ⊢ bigSep Finset.univ (ghost m) :=
  bigSep_mono fun c _ => by
    show iprop(records m K ∗ (bigSep Finset.univ fun k : Fin 4 => atPos ER (cell c k) 0 ∅ 0) ∗ tasks c) ⊢ ghost m c
    unfold ghost positions
    rw [bigSep_kinds]
    iintro H
    iexists K
    iexact H

/-- All devices' invariants and positions, regrouped: every device sees every cell's invariant, keeps its own
    positions and has its tasks. -/
theorem regroup :
    (bigSep Finset.univ fun c : Dev nD => iprop((bigSep Finset.univ fun k => iprop(∃ κ : ℕ, cellInv ER (Rd m) κ (cell c k)))
          ∗ (bigSep Finset.univ fun k => reached ER (cell c k) 0)
          ∗ (bigSep Finset.univ fun k => atPos ER (cell c k) 0 ∅ 0)
          ∗ bigSep Finset.univ fun k => dutyTok ER (cell c k) 0 ()) : sProp 𝕄)
      ⊢ bigSep Finset.univ (ghost m) := by
  rw [bigSep_sep', bigSep_sep', bigSep_sep',
    ← bigSep_univ_prod (fun ck : Dev nD × Fin 4 => iprop(∃ κ : ℕ, cellInv ER (Rd m) κ (cell ck.1 ck.2))),
    ← bigSep_univ_prod (fun ck : Dev nD × Fin 4 => (reached ER (cell ck.1 ck.2) 0 : sProp 𝕄))]
  iintro ⟨HI, #Hr, Hat, Htok⟩
  ihave HK := (BI.bigSep_exists_pi Finset.univ
    (fun (ck : Dev nD × Fin 4) (κ : ℕ) => (cellInv ER (Rd m) κ (cell ck.1 ck.2) : sProp 𝕄))) $$ HI
  icases HK with ⟨%K, #HI⟩
  ihave Htask := (deal_tasks (F := F)) $$ Htok
  ihave HR := (BI.bigSep_of_persistent (Finset.univ : Finset (Dev nD)) (records m K)) $$ []
  · unfold records
    isplitr; · iexact HI
    iexact Hr
  iapply (every_ghost m K)
  simp only [bigSep_sep']
  isplitl [HR]; · iexact HR
  isplitl [Hat] <;> iassumption

/-- The global step of the launch. -/
theorem global :
    (bigSep Finset.univ fun c => iprop(Pipeline.ownSems0 (Ix := Unit) (Name := ℕ) (U := UU) (Lvl := ℕ) (Val := Elt F) (τ := τ) osem c
        ∗ unscopedSems0 c ∗ dealt m c) : sProp 𝕄)
      ⊢ |={Set.univ}=> bigSep Finset.univ (ghost m) :=
  ((bigSep_mono fun c _ => make_cells m c).trans (bigSep_fupd _ _)).trans (BI.fupd_mono (regroup m))

/-! ## Entering and leaving the region -/

/-- What all devices owe gives each device the credit for its barrier and for its peer's rows. -/
theorem credits (c : Dev nD) :
    (Pipeline.launchCred owed₀ c : sProp 𝕄) ⊢ iprop(cred (tallyAt (cell c 3) () amt) ∗ cred (tallyAt (cell c 0) () 1)) := by
  unfold owed₀
  rw [Pipeline.launchCred_add]
  exact BI.sep_mono (Pipeline.launchCred_tallyAt (csem 3) peer peer peer_peer peer_peer () amt c)
    (Pipeline.launchCred_tallyAt (csem 0) peer peer peer_peer peer_peer () 1 c)

/-- The launch gives a device the state its body starts from. -/
theorem enter (c : Dev nD) :
    iprop(Pipeline.unscopedRestP Pipeline.Prefetch.none cfg0.spec c (fun b => m ((c : Thread nD τ).loc b)) ∗ levAts L lv
        ∗ Pipeline.launchCred owed₀ c ∗ prngReg c (ρ c) ∗ ghost m c)
      ⊢ |={Set.univ}=> iprop(before m c ∗ emp) := by
  rw [Pipeline.unscopedRestP_none, unscopedRest0_eq]
  iintro ⟨⟨Hx, Ho⟩, Hlev, Hcr, -, HG⟩
  ihave Hc := (credits (F := F) c) $$ Hcr
  icases Hc with ⟨H3, H0⟩
  imodintro
  isplitl
  · unfold before
    isplitl [HG]; · iexact HG
    isplitl [H0]; · iexact H0
    isplitl [H3]; · iexact H3
    isplitl [Hlev]; · iexact Hlev
    isplitl [Hx]
    · unfold inp; iexact Hx
    · iexact Ho
  · iempintro

/-- What is kept of a device's end state outside the region: the barrier's counter and the two arrays. -/
def left (c : Dev nD) : sProp 𝕄 :=
  iprop(unscopedSems0 c ∗ ((c : Thread nD τ).loc main_arg0 ↦{fullShare} inp m c)
    ∗ ((c : Thread nD τ).loc main_v1 ↦{fullShare} goal m c))

/-- The region begins in the state its body starts from. -/
theorem begin_region (c : Dev nD) :
    iprop(before m c ∗ Pipeline.prefHeld Pipeline.Prefetch.none c (fun _ => fullShare.right) (fun k => k.elim0)
        ∗ Pipeline.scopedRest cfg0.spec c) ⊢ (dats m 0 c).Φ 0 := by
  show _ ⊢ before m c
  iintro ⟨H, -, -⟩
  iexact H

/-- The region's end state gives the own semaphores back at zero and leaves the rest. -/
theorem end_region (c : Dev nD) :
    (dats m 0 c).Φ (Fin.last cfg0.N) ⊢ iprop(left m c ∗ Pipeline.ownSems0 osem c ∗ Pipeline.scopedRest cfg0.spec c) := by
  show done m c ⊢ _
  rw [scopedRest0_eq, own_sems]
  unfold done left
  rw [launch_sems]
  iintro ⟨⟨H0, H1, H2, H3⟩, Hx, Ho⟩
  isplitl [H0 Hx Ho]
  · isplitl [H0]; · iexact H0
    isplitl [Hx] <;> iassumption
  isplitl
  · isplitl [H1]; · iexact H1
    isplitl [H2] <;> iassumption
  · iempintro

/-- What is left at the end says what the final memory holds. -/
theorem read_end (c : Dev nD) (s' : Phys nD τ sig (Elt F)) :
    iprop(left m c ∗ emp ∗ SI s')
      ⊢ |={Set.univ}=> iprop(⌜(∀ sm : SemLoc sig, sm.isScoped .tc = false → s'.mem.sem ((c.tc : Thread nD τ), sm) = 0)
          ∧ s'.mem.mem ((c : Thread nD τ).loc main_arg0) = inp m c
          ∧ s'.mem.mem ((c : Thread nD τ).loc main_v1) = goal m c⌝ ∗ (SI s' : sProp 𝕄)) := by
  unfold left
  iintro ⟨⟨Hsem, Hx, Ho⟩, -, HSI⟩
  ihave %hs := (tcUnscoped_read c s') $$ [Hsem HSI]
  · isplitl [Hsem] <;> iassumption
  icombine HSI Hx gives %hx
  icombine HSI Ho gives %ho
  imodintro
  isplitr
  · ipureintro; exact ⟨hs, Buf.eq_of_forall_mem_univ hx, Buf.eq_of_forall_mem_univ ho⟩
  · iexact HSI

/-! ## The run -/

variable [FloatOps F]

/-- The region's body meets its specification on every device. -/
theorem body_obligation (c : Dev nD) : BodyObligation (dats (F := F) m 0 c) (defs₀ (F := F)) 𝒱₀ () Set.univ := fun t => by
  rw [fin_N0 t]
  show iprop(before m c ∗ (dats m 0 c).owesAt () t0_0.castSucc ∗ bigSep (Finset.univ : Finset (Fin 0)) _)
    ⊢ wp frame (wpE (defs₀ (F := F)) 𝒱₀ c none) Set.univ
      (cc0_body (Memref.whole main_arg0) (Memref.isWhole_whole _) (Memref.whole main_v1) (Memref.isWhole_whole _)
        cc0_scratch0 cc0_scratch1 cc0_scratch2)
      (fun _ => iprop(done m c ∗ (dats m 0 c).owesAt () t0_0.succ ∗ bigSep (Finset.univ : Finset (Fin 0)) _))
  unfold Dat.owesAt Pipeline.owesWithin
  iintro ⟨Hb, ⟨%W, -, HO⟩, -⟩
  iapply (body_spec m c W _)
  isplitl [Hb]; · iexact Hb
  isplitl [HO]; · iexact HO
  iintro ⟨Hd, ⟨%W', HO⟩⟩
  isplitl [Hd]; · iexact Hd
  isplitl
  · iexists W'
    isplitr; · ipureintro; exact fun _ _ => Or.inl trivial
    iexact HO
  · rw [show (Finset.univ : Finset (Fin 0)) = ∅ from rfl, bigSep_empty]; iempintro

/-- There are no windows, so nothing is to be waited for outside the body. -/
theorem waits (c : Dev nD) : (levAts L lv : sProp 𝕄) ⊢ Pipeline.cellsWaits cfgs (dats m) () 0 c :=
  Pipeline.cellsWaits_intro cfgs (dats m) () 0 c fun w _ _ => w.elim0

/-- From any memory with all semaphores at zero, every run of the eight devices ends; the input is then as it was, every
    device's output is the `goal`, and every semaphore is at zero. -/
theorem run_main : θ_run defs (onTc (τ := τ) (main (F := F))) ⟨m, fun _ => 0, ρ⟩ (fun r =>
    (∀ c : Dev nD, r.2.mem ((c : Thread nD τ).loc main_arg0) = inp m c
      ∧ r.2.mem ((c : Thread nD τ).loc main_v1) = goal m c) ∧ r.2.sem = fun _ => 0) :=
  Pipeline.θ_run_region_owing_glob_pf (fun p => (cfgs p).toPCfg) (fun p => (cfgs p).toPCfg_adm) (dats m) () cellOf_inj
    (0 : Fin 1) winFacts0.to₀ own_facts (Pipeline.PreFacts.none _) EP defs₀ 𝒱₀ m ρ main
    (hmain := fun _ => rfl)
    (hbody := body_obligation m) (hne := fun w => w.elim0) (harr := arr_whole0) (hstage := stage_whole0)
    (hshare := fun _ w => w.elim0) (hdistinct := winFacts0.arr_inj)
    (O₀ := owed₀) (howed₀ := fun _ => rfl) (howedN := fun _ => rfl)
    (L := L) (lv := lv) (hL := L_of_ne) (hwaits := waits m)
    (G := dealt m) (G' := ghost m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := global m)
    (hA := fun _ w => w.elim0) (hpf := fun _ k => k.elim0)
    (X := before m) (Y := left m) (Z := fun _ => iprop(emp))
    (hX := enter m ρ) (hin := begin_region m) (hout := end_region m)
    (QY := fun c s => (∀ sm : SemLoc sig, sm.isScoped .tc = false → s.sem ((c.tc : Thread nD τ), sm) = 0)
      ∧ s.mem ((c : Thread nD τ).loc main_arg0) = inp m c ∧ s.mem ((c : Thread nD τ).loc main_v1) = goal m c)
    (hY := read_end m)
    (hQ := fun _ h hs => ⟨fun c => (h c).2.2.2, sem_eq_zero hs fun c => (h c).2.2.1⟩)

end Cert.Reshard

end
-- ==== Proof.Whole.lean ====
/-
# The eight outputs as one array

If the eight inputs are the two row halves of one 1024 × 1024 array, each held by the four devices whose last mesh
coordinate names it, then the outputs the run ends with are the two column halves of that same array.
-/
module

public import proofs.«01_k».proof.Defs
public import proofs.«01_k».proof.Proof.Run
public import proofs.«01_k».proof.Proof.Gen.Kernel
public import proofs.«01_k».proof.Proof.Gen.ReferenceIdeal
public import Idealize.ShloMosaic.Lib.StableHlo.Run

@[expose] public section

noncomputable section

namespace Cert.Reshard

open Cert.KernelIdeal Cert.KernelIdeal.Gen
open Idealize.ShloMosaic
open Idealize.ShloMosaic.TcCoe
open Idealize.SL.Sem

variable {F : FTy → Type}

/-- The rows a device holds of the input: its last coordinate's half. -/
theorem row_half (c : Dev nD) : ((Layout.meshBlock [2, 2, 2] ![[2], []] c) 0).val = c.val % 2 := by revert c; decide
/-- It holds all columns of them. -/
theorem row_all (c : Dev nD) : ((Layout.meshBlock [2, 2, 2] ![[2], []] c) 1).val = 0 := by revert c; decide
/-- The columns a device holds of the output: its last coordinate's half. -/
theorem col_half (c : Dev nD) : ((Layout.meshBlock [2, 2, 2] ![[], [2]] c) 1).val = c.val % 2 := by revert c; decide
/-- It holds all rows of them. -/
theorem col_all (c : Dev nD) : ((Layout.meshBlock [2, 2, 2] ![[], [2]] c) 0).val = 0 := by revert c; decide

/-- If every device's input is its row half of `X`, every device's output is to end as its column half of `X`. -/
theorem goal_is_half (m : (ℓ : Loc nD τ sig) → Buf (Elt F) ℓ) (X : (⟨2, ![1024, 1024]⟩ : Shape).Idx → Elt F .f32)
    (h : ∀ c : Dev nD, inp m c
      = Layout.blockN ⟨2, ![512, 1024]⟩ ⟨2, ![1024, 1024]⟩ (Layout.meshBlock [2, 2, 2] ![[2], []] c) X)
    (c : Dev nD) :
    goal m c = Layout.blockN ⟨2, ![1024, 512]⟩ ⟨2, ![1024, 1024]⟩ (Layout.meshBlock [2, 2, 2] ![[], [2]] c) X := by
  funext i
  have h0 : (i 0).val < 1024 := (i 0).isLt
  unfold goal
  rw [h, Layout.blockN_apply, Layout.blockN_apply]
  congr 1
  funext b
  apply Fin.ext
  fin_cases b
  · show ((Layout.meshBlock [2, 2, 2] ![[2], []] (member c ((i 0).val / 512))) 0).val * 512 + (i 0).val % 512
      = ((Layout.meshBlock [2, 2, 2] ![[], [2]] c) 0).val * 1024 + (i 0).val
    rw [row_half, col_all]
    show (2 * (c.val / 2) + (i 0).val / 512 % 2) % 2 * 512 + (i 0).val % 512 = _
    omega
  · show ((Layout.meshBlock [2, 2, 2] ![[2], []] (member c ((i 0).val / 512))) 1).val * 1024
        + (512 * (c.val % 2) + (i 1).val)
      = ((Layout.meshBlock [2, 2, 2] ![[], [2]] c) 1).val * 512 + (i 1).val
    rw [row_all, col_half]
    omega

/-- The reference does nothing: every buffer ends as it was. -/
theorem reference_run [FloatOps F]
    (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F)))
      ⟨m, fun _ => 0, ρ⟩ (fun r => ∀ c : Dev Cert.ReferenceIdeal.nD,
        r.2.mem ((c : Thread Cert.ReferenceIdeal.nD Cert.ReferenceIdeal.τ).loc Cert.ReferenceIdeal.main_arg0)
          = m ((c : Thread Cert.ReferenceIdeal.nD Cert.ReferenceIdeal.τ).loc Cert.ReferenceIdeal.main_arg0)) :=
  (θ_run Cert.ReferenceIdeal.defs _ _).mono (fun _ h c => h c Cert.ReferenceIdeal.main_arg0)
    (StableHlo.run_seq (by decide) (by decide) Cert.ReferenceIdeal.defs Cert.ReferenceIdeal.main (fun _ => [])
      (fun _ => rfl) (fun _ => trivial) m ρ)

/-! ## The claims -/

/-- The kernel as it is compiled runs, leaves its input as it was and ends with every semaphore at zero: its text is the
    ideal program's, so the run over any float values covers it. -/
theorem frame_kernel : Cert.quiescent_Kernel := fun m ρ _ =>
  (θ_run Cert.KernelIdeal.defs _ _).mono (fun _ h => ⟨fun c => (h.1 c).1, h.2⟩) (run_main (F := Bits) m ρ)

/-- The same of the ideal program. -/
theorem frame_ideal : Cert.quiescent_KernelIdeal := fun m ρ _ =>
  (θ_run Cert.KernelIdeal.defs _ _).mono (fun _ h => ⟨fun c => (h.1 c).1, h.2⟩) (run_main m ρ)

/-- The reference runs, leaves its input as it was and has no semaphore. -/
theorem frame_reference : Cert.quiescent_ReferenceIdeal := fun m ρ _ =>
  (θ_run Cert.ReferenceIdeal.defs _ _).mono (fun r h => ⟨h, sem_eq_zero_of_no_sems rfl r.2⟩) (reference_run m ρ)

/-- On inputs that are the row halves of one array, the kernel's outputs are the column halves of what the reference
    returns, which is that array. -/
theorem equal_results : Cert.algebraic_KernelIdeal_ReferenceIdeal := fun m ρ m' ρ' _ h =>
  ⟨m' _,
    (θ_run Cert.KernelIdeal.defs _ _).mono
      (fun _ e c => ⟨(e.1 c).2.trans (goal_is_half m _ h c), (e.1 c).1⟩) (run_main m ρ),
    (θ_run Cert.ReferenceIdeal.defs _ _).mono (fun _ e => ⟨e 0, e 0⟩) (reference_run m' ρ')⟩

end Cert.Reshard

end
-- ==== Proof.lean ====
/-
# The certificate

The five claims, from the modules under `Proof/`.
-/
module

public import proofs.«01_k».proof.Defs
public import proofs.«01_k».proof.Proof.Whole

@[expose] public section

namespace Cert.Proof

open Cert.Reshard

/-- Both readings of the kernel and the reference run, leave their inputs as they were and end with every semaphore at
    zero; no operation was replaced; and kernel and reference end with the same results. -/
theorem claim : Cert.Claim :=
  ⟨Cert.Kernel.Gen.facts, Cert.KernelIdeal.Gen.facts, Cert.ReferenceIdeal.Gen.facts,
    frame_kernel, frame_ideal, frame_reference, trivial, equal_results⟩

end Cert.Proof
